-- ==== Defs.lean ====
def Pre_Gemm (m : (ℓ : Loc Cert.Gemm.nD Cert.Gemm.τ Cert.Gemm.sig) → Buf (Elt Bits) ℓ) : Prop :=
  True

def Pre_GemmIdeal (m : (ℓ : Loc Cert.GemmIdeal.nD Cert.GemmIdeal.τ Cert.GemmIdeal.sig) → Buf (Elt Ideal) ℓ) : Prop :=
  True

def Pre_GemmRefIdeal (m : (ℓ : Loc Cert.GemmRefIdeal.nD Cert.GemmRefIdeal.τ Cert.GemmRefIdeal.sig) → Buf (Elt Ideal) ℓ) : Prop :=
  True

def Pre_Quant (m : (ℓ : Loc Cert.Quant.nD Cert.Quant.τ Cert.Quant.sig) → Buf (Elt Bits) ℓ) : Prop :=
  True

def Pre_QuantRef (m : (ℓ : Loc Cert.QuantRef.nD Cert.QuantRef.τ Cert.QuantRef.sig) → Buf (Elt Bits) ℓ) : Prop :=
  True

def quiescent_Gemm [hGemm : Cert.Gemm.Facts] : Prop :=
  ∀ (m : (ℓ : Loc Cert.Gemm.nD Cert.Gemm.τ Cert.Gemm.sig) → Buf (Elt Bits) ℓ) (g : Dev Cert.Gemm.nD → PrngReg), Pre_Gemm m →
    θ_run (Cert.Gemm.defs (F := Bits)) (onTc (τ := Cert.Gemm.τ) (Cert.Gemm.main (F := Bits))) ⟨m, fun _ => 0, g⟩ (fun r => (∀ c : Dev Cert.Gemm.nD,
      r.2.mem ((c.tc : Thread Cert.Gemm.nD Cert.Gemm.τ).loc Cert.Gemm.main_arg0) = m ((c.tc : Thread Cert.Gemm.nD Cert.Gemm.τ).loc Cert.Gemm.main_arg0)
      ∧ r.2.mem ((c.tc : Thread Cert.Gemm.nD Cert.Gemm.τ).loc Cert.Gemm.main_arg1) = m ((c.tc : Thread Cert.Gemm.nD Cert.Gemm.τ).loc Cert.Gemm.main_arg1)
      ∧ r.2.mem ((c.tc : Thread Cert.Gemm.nD Cert.Gemm.τ).loc Cert.Gemm.main_arg2) = m ((c.tc : Thread Cert.Gemm.nD Cert.Gemm.τ).loc Cert.Gemm.main_arg2)
      ∧ r.2.mem ((c.tc : Thread Cert.Gemm.nD Cert.Gemm.τ).loc Cert.Gemm.main_arg3) = m ((c.tc : Thread Cert.Gemm.nD Cert.Gemm.τ).loc Cert.Gemm.main_arg3)
      ∧ r.2.mem ((c.tc : Thread Cert.Gemm.nD Cert.Gemm.τ).loc Cert.Gemm.main_arg4) = m ((c.tc : Thread Cert.Gemm.nD Cert.Gemm.τ).loc Cert.Gemm.main_arg4))
      ∧ r.2.sem = fun _ => 0)

def quiescent_GemmIdeal [hGemmIdeal : Cert.GemmIdeal.Facts] : Prop :=
  ∀ (m : (ℓ : Loc Cert.GemmIdeal.nD Cert.GemmIdeal.τ Cert.GemmIdeal.sig) → Buf (Elt Ideal) ℓ) (g : Dev Cert.GemmIdeal.nD → PrngReg), Pre_GemmIdeal m →
    θ_run (Cert.GemmIdeal.defs (F := Ideal)) (onTc (τ := Cert.GemmIdeal.τ) (Cert.GemmIdeal.main (F := Ideal))) ⟨m, fun _ => 0, g⟩ (fun r => (∀ c : Dev Cert.GemmIdeal.nD,
      r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
      ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
      ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
      ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3)
      ∧ r.2.mem ((c.tc : Thread Cert.GemmIdeal.nD Cert.GemmIdeal.τ).loc Cert.GemmIdeal.main_arg4) = m ((c.tc : Thread Cert.GemmIdeal.nD Cert.GemmIdeal.τ).loc Cert.GemmIdeal.main_arg4))
      ∧ r.2.sem = fun _ => 0)

def quiescent_GemmRefIdeal [hGemmRefIdeal : Cert.GemmRefIdeal.Facts] : Prop :=
  ∀ (m : (ℓ : Loc Cert.GemmRefIdeal.nD Cert.GemmRefIdeal.τ Cert.GemmRefIdeal.sig) → Buf (Elt Ideal) ℓ) (g : Dev Cert.GemmRefIdeal.nD → PrngReg), Pre_GemmRefIdeal m →
    θ_run (Cert.GemmRefIdeal.defs (F := Ideal)) (onTc (τ := Cert.GemmRefIdeal.τ) (Cert.GemmRefIdeal.main (F := Ideal))) ⟨m, fun _ => 0, g⟩ (fun r => (∀ c : Dev Cert.GemmRefIdeal.nD,
      r.2.mem ((c.tc : Thread Cert.GemmRefIdeal.nD Cert.GemmRefIdeal.τ).loc Cert.GemmRefIdeal.main_arg0) = m ((c.tc : Thread Cert.GemmRefIdeal.nD Cert.GemmRefIdeal.τ).loc Cert.GemmRefIdeal.main_arg0)
      ∧ r.2.mem ((c.tc : Thread Cert.GemmRefIdeal.nD Cert.GemmRefIdeal.τ).loc Cert.GemmRefIdeal.main_arg1) = m ((c.tc : Thread Cert.GemmRefIdeal.nD Cert.GemmRefIdeal.τ).loc Cert.GemmRefIdeal.main_arg1)
      ∧ r.2.mem ((c.tc : Thread Cert.GemmRefIdeal.nD Cert.GemmRefIdeal.τ).loc Cert.GemmRefIdeal.main_arg2) = m ((c.tc : Thread Cert.GemmRefIdeal.nD Cert.GemmRefIdeal.τ).loc Cert.GemmRefIdeal.main_arg2)
      ∧ r.2.mem ((c.tc : Thread Cert.GemmRefIdeal.nD Cert.GemmRefIdeal.τ).loc Cert.GemmRefIdeal.main_arg3) = m ((c.tc : Thread Cert.GemmRefIdeal.nD Cert.GemmRefIdeal.τ).loc Cert.GemmRefIdeal.main_arg3)
      ∧ r.2.mem ((c.tc : Thread Cert.GemmRefIdeal.nD Cert.GemmRefIdeal.τ).loc Cert.GemmRefIdeal.main_arg4) = m ((c.tc : Thread Cert.GemmRefIdeal.nD Cert.GemmRefIdeal.τ).loc Cert.GemmRefIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantRef [hQuantRef : Cert.QuantRef.Facts] : Prop :=
  ∀ (m : (ℓ : Loc Cert.QuantRef.nD Cert.QuantRef.τ Cert.QuantRef.sig) → Buf (Elt Bits) ℓ) (g : Dev Cert.QuantRef.nD → PrngReg), Pre_QuantRef m →
    θ_run (Cert.QuantRef.defs (F := Bits)) (onTc (τ := Cert.QuantRef.τ) (Cert.QuantRef.main (F := Bits))) ⟨m, fun _ => 0, g⟩ (fun r => (∀ c : Dev Cert.QuantRef.nD,
      r.2.mem ((c.tc : Thread Cert.QuantRef.nD Cert.QuantRef.τ).loc Cert.QuantRef.main_arg0) = m ((c.tc : Thread Cert.QuantRef.nD Cert.QuantRef.τ).loc Cert.QuantRef.main_arg0))
      ∧ r.2.sem = fun _ => 0)

def preserves_Gemm_GemmIdeal : Prop :=
  True

def algebraic_GemmIdeal_GemmRefIdeal [hGemmIdeal : Cert.GemmIdeal.Facts] [hGemmRefIdeal : Cert.GemmRefIdeal.Facts] : Prop :=
  ∀ (m : (ℓ : Loc Cert.GemmIdeal.nD Cert.GemmIdeal.τ Cert.GemmIdeal.sig) → Buf (Elt Ideal) ℓ) (g : Dev Cert.GemmIdeal.nD → PrngReg)
    (m' : (ℓ : Loc Cert.GemmRefIdeal.nD Cert.GemmRefIdeal.τ Cert.GemmRefIdeal.sig) → Buf (Elt Ideal) ℓ) (g' : Dev Cert.GemmRefIdeal.nD → PrngReg), Pre_GemmIdeal m →
    (∀ c : Dev Cert.GemmIdeal.nD,
      m' ((c.tc : Thread Cert.GemmRefIdeal.nD Cert.GemmRefIdeal.τ).loc Cert.GemmRefIdeal.main_arg0) = m ((c.tc : Thread Cert.GemmIdeal.nD Cert.GemmIdeal.τ).loc Cert.GemmIdeal.main_arg0)
      ∧ m' ((c.tc : Thread Cert.GemmRefIdeal.nD Cert.GemmRefIdeal.τ).loc Cert.GemmRefIdeal.main_arg1) = m ((c.tc : Thread Cert.GemmIdeal.nD Cert.GemmIdeal.τ).loc Cert.GemmIdeal.main_arg1)
      ∧ m' ((c.tc : Thread Cert.GemmRefIdeal.nD Cert.GemmRefIdeal.τ).loc Cert.GemmRefIdeal.main_arg2) = m ((c.tc : Thread Cert.GemmIdeal.nD Cert.GemmIdeal.τ).loc Cert.GemmIdeal.main_arg2)
      ∧ m' ((c.tc : Thread Cert.GemmRefIdeal.nD Cert.GemmRefIdeal.τ).loc Cert.GemmRefIdeal.main_arg3) = m ((c.tc : Thread Cert.GemmIdeal.nD Cert.GemmIdeal.τ).loc Cert.GemmIdeal.main_arg3)
      ∧ m' ((c.tc : Thread Cert.GemmRefIdeal.nD Cert.GemmRefIdeal.τ).loc Cert.GemmRefIdeal.main_arg4) = m ((c.tc : Thread Cert.GemmIdeal.nD Cert.GemmIdeal.τ).loc Cert.GemmIdeal.main_arg4)) →
    ∃ (v0 : (c : Dev Cert.GemmIdeal.nD) → Buf (Elt Ideal) ((c.tc : Thread Cert.GemmIdeal.nD Cert.GemmIdeal.τ).loc Cert.GemmIdeal.main_v3)),
      θ_run (Cert.GemmIdeal.defs (F := Ideal)) (onTc (τ := Cert.GemmIdeal.τ) (Cert.GemmIdeal.main (F := Ideal))) ⟨m, fun _ => 0, g⟩ (fun r => ∀ c : Dev Cert.GemmIdeal.nD,
          r.2.mem ((c.tc : Thread Cert.GemmIdeal.nD Cert.GemmIdeal.τ).loc Cert.GemmIdeal.main_v3) = v0 c
          ∧ r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
          ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
          ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
          ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3)
          ∧ r.2.mem ((c.tc : Thread Cert.GemmIdeal.nD Cert.GemmIdeal.τ).loc Cert.GemmIdeal.main_arg4) = m ((c.tc : Thread Cert.GemmIdeal.nD Cert.GemmIdeal.τ).loc Cert.GemmIdeal.main_arg4))
      ∧ θ_run (Cert.GemmRefIdeal.defs (F := Ideal)) (onTc (τ := Cert.GemmRefIdeal.τ) (Cert.GemmRefIdeal.main (F := Ideal))) ⟨m', fun _ => 0, g'⟩ (fun r => ∀ c : Dev Cert.GemmRefIdeal.nD,
          r.2.mem ((c.tc : Thread Cert.GemmRefIdeal.nD Cert.GemmRefIdeal.τ).loc Cert.GemmRefIdeal.main_v1) = v0 c
          ∧ r.2.mem ((c.tc : Thread Cert.GemmRefIdeal.nD Cert.GemmRefIdeal.τ).loc Cert.GemmRefIdeal.main_arg0) = m' ((c.tc : Thread Cert.GemmRefIdeal.nD Cert.GemmRefIdeal.τ).loc Cert.GemmRefIdeal.main_arg0)
          ∧ r.2.mem ((c.tc : Thread Cert.GemmRefIdeal.nD Cert.GemmRefIdeal.τ).loc Cert.GemmRefIdeal.main_arg1) = m' ((c.tc : Thread Cert.GemmRefIdeal.nD Cert.GemmRefIdeal.τ).loc Cert.GemmRefIdeal.main_arg1)
          ∧ r.2.mem ((c.tc : Thread Cert.GemmRefIdeal.nD Cert.GemmRefIdeal.τ).loc Cert.GemmRefIdeal.main_arg2) = m' ((c.tc : Thread Cert.GemmRefIdeal.nD Cert.GemmRefIdeal.τ).loc Cert.GemmRefIdeal.main_arg2)
          ∧ r.2.mem ((c.tc : Thread Cert.GemmRefIdeal.nD Cert.GemmRefIdeal.τ).loc Cert.GemmRefIdeal.main_arg3) = m' ((c.tc : Thread Cert.GemmRefIdeal.nD Cert.GemmRefIdeal.τ).loc Cert.GemmRefIdeal.main_arg3)
          ∧ r.2.mem ((c.tc : Thread Cert.GemmRefIdeal.nD Cert.GemmRefIdeal.τ).loc Cert.GemmRefIdeal.main_arg4) = m' ((c.tc : Thread Cert.GemmRefIdeal.nD Cert.GemmRefIdeal.τ).loc Cert.GemmRefIdeal.main_arg4))

def bitexact_Quant_QuantRef [hQuant : Cert.Quant.Facts] [hQuantRef : Cert.QuantRef.Facts] : Prop :=
  ∀ (m : (ℓ : Loc Cert.Quant.nD Cert.Quant.τ Cert.Quant.sig) → Buf (Elt Bits) ℓ) (g : Dev Cert.Quant.nD → PrngReg)
    (m' : (ℓ : Loc Cert.QuantRef.nD Cert.QuantRef.τ Cert.QuantRef.sig) → Buf (Elt Bits) ℓ) (g' : Dev Cert.QuantRef.nD → PrngReg), Pre_Quant m →
    (∀ c : Dev Cert.Quant.nD,
      m' ((c.tc : Thread Cert.QuantRef.nD Cert.QuantRef.τ).loc Cert.QuantRef.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v1_0)) (v1 : (c : Dev Cert.Quant.nD) → Buf (Elt Bits) ((c.tc : Thread Cert.Quant.nD Cert.Quant.τ).loc Cert.Quant.main_v1_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v1_0) = v0 c
          ∧ r.2.mem ((c.tc : Thread Cert.Quant.nD Cert.Quant.τ).loc Cert.Quant.main_v1_1) = v1 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.QuantRef.defs (F := Bits)) (onTc (τ := Cert.QuantRef.τ) (Cert.QuantRef.main (F := Bits))) ⟨m', fun _ => 0, g'⟩ (fun r => ∀ c : Dev Cert.QuantRef.nD,
          r.2.mem ((c.tc : Thread Cert.QuantRef.nD Cert.QuantRef.τ).loc Cert.QuantRef.main_v1_0) = v0 c
          ∧ r.2.mem ((c.tc : Thread Cert.QuantRef.nD Cert.QuantRef.τ).loc Cert.QuantRef.main_v1_1) = v1 c
          ∧ r.2.mem ((c.tc : Thread Cert.QuantRef.nD Cert.QuantRef.τ).loc Cert.QuantRef.main_arg0) = m' ((c.tc : Thread Cert.QuantRef.nD Cert.QuantRef.τ).loc Cert.QuantRef.main_arg0))

def Claim : Prop :=
  ∃ (hGemm : Cert.Gemm.Facts) (hGemmIdeal : Cert.GemmIdeal.Facts) (hGemmRefIdeal : Cert.GemmRefIdeal.Facts) (hQuant : Cert.Quant.Facts) (hQuantRef : Cert.QuantRef.Facts),
    quiescent_Gemm (hGemm := hGemm)
    ∧ quiescent_GemmIdeal (hGemmIdeal := hGemmIdeal)
    ∧ quiescent_GemmRefIdeal (hGemmRefIdeal := hGemmRefIdeal)
    ∧ quiescent_Quant (hQuant := hQuant)
    ∧ quiescent_QuantRef (hQuantRef := hQuantRef)
    ∧ preserves_Gemm_GemmIdeal
    ∧ algebraic_GemmIdeal_GemmRefIdeal (hGemmIdeal := hGemmIdeal) (hGemmRefIdeal := hGemmRefIdeal)
    ∧ bitexact_Quant_QuantRef (hQuant := hQuant) (hQuantRef := hQuantRef)
-- ==== Gemm.lean ====
abbrev S6144x5120 : Shape := ⟨2, ![6144, 5120]⟩
abbrev S6144x40 : Shape := ⟨2, ![6144, 40]⟩
abbrev S5120x3840 : Shape := ⟨2, ![5120, 3840]⟩
abbrev S40x30 : Shape := ⟨2, ![40, 30]⟩
abbrev S3x2048x3840 : Shape := ⟨3, ![3, 2048, 3840]⟩
abbrev S40x30x128 : Shape := ⟨3, ![40, 30, 128]⟩
abbrev S40x3840 : Shape := ⟨2, ![40, 3840]⟩
abbrev S6144x3840 : Shape := ⟨2, ![6144, 3840]⟩
abbrev S256x5120 : Shape := ⟨2, ![256, 5120]⟩
abbrev S256x40 : Shape := ⟨2, ![256, 40]⟩
abbrev S5120x768 : Shape := ⟨2, ![5120, 768]⟩
abbrev S40x768 : Shape := ⟨2, ![40, 768]⟩
abbrev S256x768 : Shape := ⟨2, ![256, 768]⟩
abbrev S256x128 : Shape := ⟨2, ![256, 128]⟩
abbrev S128x768 : Shape := ⟨2, ![128, 768]⟩
abbrev S256x1 : Shape := ⟨2, ![256, 1]⟩
abbrev S1x768 : Shape := ⟨2, ![1, 768]⟩

abbrev nBuf : Space → Nat
  | .hbm => 9
  | .vmem => 13
  | .smem => 0
  | _ => 0

abbrev bufTy : (tb : Table) → Fin (tcTables nBuf tb) → BufTy
  | .hbm, ⟨0, _⟩ => ⟨S6144x5120, .fp8e4m3⟩
  | .hbm, ⟨1, _⟩ => ⟨S6144x40, .f32⟩
  | .hbm, ⟨2, _⟩ => ⟨S5120x3840, .fp8e4m3⟩
  | .hbm, ⟨3, _⟩ => ⟨S40x30, .f32⟩
  | .hbm, ⟨4, _⟩ => ⟨S3x2048x3840, .bf16⟩
  | .hbm, ⟨5, _⟩ => ⟨S40x30x128, .f32⟩
  | .hbm, ⟨6, _⟩ => ⟨S40x3840, .f32⟩
  | .hbm, ⟨7, _⟩ => ⟨S6144x3840, .bf16⟩
  | .hbm, ⟨8, _⟩ => ⟨S6144x3840, .bf16⟩
  | .local _ .vmem, ⟨0, _⟩ => ⟨S256x5120, .fp8e4m3⟩
  | .local _ .vmem, ⟨1, _⟩ => ⟨S256x5120, .fp8e4m3⟩
  | .local _ .vmem, ⟨2, _⟩ => ⟨S256x40, .f32⟩
  | .local _ .vmem, ⟨3, _⟩ => ⟨S256x40, .f32⟩
  | .local _ .vmem, ⟨4, _⟩ => ⟨S5120x768, .fp8e4m3⟩
  | .local _ .vmem, ⟨5, _⟩ => ⟨S5120x768, .fp8e4m3⟩
  | .local _ .vmem, ⟨6, _⟩ => ⟨S40x768, .f32⟩
  | .local _ .vmem, ⟨7, _⟩ => ⟨S40x768, .f32⟩
  | .local _ .vmem, ⟨8, _⟩ => ⟨S256x768, .bf16⟩
  | .local _ .vmem, ⟨9, _⟩ => ⟨S256x768, .bf16⟩
  | .local _ .vmem, ⟨10, _⟩ => ⟨S256x768, .bf16⟩
  | .local _ .vmem, ⟨11, _⟩ => ⟨S256x768, .bf16⟩
  | .local _ .vmem, ⟨12, _⟩ => ⟨S256x768, .f32⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S40x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GemmRefIdeal.lean ====
abbrev S6144x5120 : Shape := ⟨2, ![6144, 5120]⟩
abbrev S6144x40 : Shape := ⟨2, ![6144, 40]⟩
abbrev S5120x3840 : Shape := ⟨2, ![5120, 3840]⟩
abbrev S40x30 : Shape := ⟨2, ![40, 30]⟩
abbrev S3x2048x3840 : Shape := ⟨3, ![3, 2048, 3840]⟩
abbrev S6144x3840 : Shape := ⟨2, ![6144, 3840]⟩
abbrev S6144x40x128 : Shape := ⟨3, ![6144, 40, 128]⟩
abbrev S40x128x3840 : Shape := ⟨3, ![40, 128, 3840]⟩
abbrev S40x6144x3840 : Shape := ⟨3, ![40, 6144, 3840]⟩
abbrev S40x6144 : Shape := ⟨2, ![40, 6144]⟩
abbrev S40x6144x1 : Shape := ⟨3, ![40, 6144, 1]⟩
abbrev S40x30x1 : Shape := ⟨3, ![40, 30, 1]⟩
abbrev S40x30x128 : Shape := ⟨3, ![40, 30, 128]⟩
abbrev S40x3840 : Shape := ⟨2, ![40, 3840]⟩
abbrev S40x1x3840 : Shape := ⟨3, ![40, 1, 3840]⟩

abbrev nBuf : Space → Nat
  | .hbm => 7
  | .vmem => 6
  | .smem => 0
  | _ => 0

abbrev bufTy : (tb : Table) → Fin (tcTables nBuf tb) → BufTy
  | .hbm, ⟨0, _⟩ => ⟨S6144x5120, .fp8e4m3⟩
  | .hbm, ⟨1, _⟩ => ⟨S6144x40, .f32⟩
  | .hbm, ⟨2, _⟩ => ⟨S5120x3840, .fp8e4m3⟩
  | .hbm, ⟨3, _⟩ => ⟨S40x30, .f32⟩
  | .hbm, ⟨4, _⟩ => ⟨S3x2048x3840, .bf16⟩
  | .hbm, ⟨5, _⟩ => ⟨S6144x3840, .bf16⟩
  | .hbm, ⟨6, _⟩ => ⟨S6144x3840, .bf16⟩
  | .local _ .vmem, ⟨0, _⟩ => ⟨S6144x5120, .fp8e4m3⟩
  | .local _ .vmem, ⟨1, _⟩ => ⟨S6144x40, .f32⟩
  | .local _ .vmem, ⟨2, _⟩ => ⟨S5120x3840, .fp8e4m3⟩
  | .local _ .vmem, ⟨3, _⟩ => ⟨S40x30, .f32⟩
  | .local _ .vmem, ⟨4, _⟩ => ⟨S6144x3840, .bf16⟩
  | .local _ .vmem, ⟨5, _⟩ => ⟨S6144x3840, .bf16⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quant.lean ====
abbrev S3x2048x5120 : Shape := ⟨3, ![3, 2048, 5120]⟩
abbrev S6144x5120 : Shape := ⟨2, ![6144, 5120]⟩
abbrev S6144x40 : Shape := ⟨2, ![6144, 40]⟩
abbrev S256x5120 : Shape := ⟨2, ![256, 5120]⟩
abbrev S256x40 : Shape := ⟨2, ![256, 40]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S3x2048x5120, .bf16⟩
  | .hbm, ⟨1, _⟩ => ⟨S6144x5120, .bf16⟩
  | .hbm, ⟨2, _⟩ => ⟨S6144x5120, .fp8e4m3⟩
  | .hbm, ⟨3, _⟩ => ⟨S6144x40, .f32⟩
  | .local _ .vmem, ⟨0, _⟩ => ⟨S256x5120, .bf16⟩
  | .local _ .vmem, ⟨1, _⟩ => ⟨S256x5120, .bf16⟩
  | .local _ .vmem, ⟨2, _⟩ => ⟨S256x5120, .fp8e4m3⟩
  | .local _ .vmem, ⟨3, _⟩ => ⟨S256x5120, .fp8e4m3⟩
  | .local _ .vmem, ⟨4, _⟩ => ⟨S256x40, .f32⟩
  | .local _ .vmem, ⟨5, _⟩ => ⟨S256x40, .f32⟩
  | _, _ => ⟨S3x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRef.lean ====
abbrev S3x2048x5120 : Shape := ⟨3, ![3, 2048, 5120]⟩
abbrev S6144x5120 : Shape := ⟨2, ![6144, 5120]⟩
abbrev S6144x40 : Shape := ⟨2, ![6144, 40]⟩
abbrev S6144x40x128 : Shape := ⟨3, ![6144, 40, 128]⟩
abbrev S6144x40x1 : Shape := ⟨3, ![6144, 40, 1]⟩

abbrev nBuf : Space → Nat
  | .hbm => 4
  | .vmem => 3
  | .smem => 0
  | _ => 0

abbrev bufTy : (tb : Table) → Fin (tcTables nBuf tb) → BufTy
  | .hbm, ⟨0, _⟩ => ⟨S3x2048x5120, .bf16⟩
  | .hbm, ⟨1, _⟩ => ⟨S6144x5120, .bf16⟩
  | .hbm, ⟨2, _⟩ => ⟨S6144x5120, .fp8e4m3⟩
  | .hbm, ⟨3, _⟩ => ⟨S6144x40, .f32⟩
  | .local _ .vmem, ⟨0, _⟩ => ⟨S6144x5120, .bf16⟩
  | .local _ .vmem, ⟨1, _⟩ => ⟨S6144x5120, .fp8e4m3⟩
  | .local _ .vmem, ⟨2, _⟩ => ⟨S6144x40, .f32⟩
  | _, _ => ⟨S3x2048x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.GemmRefValue.lean ====
/- What the reference of the matrix product computes, at the extended reals: its one stored block is its result,
   and one element of it is the sum over the 40 groups of (product of the group) * (row scale) * (weight scale),
   plus the residual. -/
module

public import proofs.«01_k».proof.Proof.Gen.GemmRefIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GemmRefIdeal.Hand

open Cert.GemmRefIdeal Cert.GemmRefIdeal.Gen

variable (m : (ℓ : Loc nD τ sig) → Buf (Elt Ideal) ℓ)

/-- The index maps at the grid's only point: every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The reference's result as one term over its arguments. -/
abbrev REF (xc : FVec Ideal S6144x5120 .fp8e4m3) (xs : FVec Ideal S6144x40 .f32) (wc : FVec Ideal S5120x3840 .fp8e4m3)
    (ws : FVec Ideal S40x30 .f32) (res : FVec Ideal S3x2048x3840 .bf16) : FVec Ideal S6144x3840 .bf16 :=
  k0_pay1 xc wc xs ws (shapeCast S6144x3840 res shapeCasts_S3x2048x3840_S6144x3840)

/-- The result array after the run is the reference's term over the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  blk_point [iblk, V, idx t0_0]

/-- One element of the reference's term. -/
theorem REF_at (xc : FVec Ideal S6144x5120 .fp8e4m3) (xs : FVec Ideal S6144x40 .f32) (wc : FVec Ideal S5120x3840 .fp8e4m3)
    (ws : FVec Ideal S40x30 .f32) (res : FVec Ideal S3x2048x3840 .bf16) (r : Fin 6144) (n : Fin 3840) :
    REF xc xs wc ws res (ix2 r n)
    = ((∑ g : Fin 40, (∑ k : Fin 128, xc (ix2 r ⟨g.val * 128 + k.val, by omega⟩) * wc (ix2 ⟨g.val * 128 + k.val, by omega⟩ n))
        * xs (ix2 r g) * ws (ix2 g ⟨n.val / 128, by omega⟩) : EReal)
      + res (ix3 ⟨r.val / 2048, by omega⟩ ⟨r.val % 2048, by omega⟩ n) : EReal) := by
  pointwise [k0_pay1, REF]

end Cert.GemmRefIdeal.Hand

end
-- ==== Proof.GemmBody.lean ====
/- What the body of the matrix product stores at one grid point, at the extended reals: each element of the block is
   the sum over the 40 groups of (product of the group) * (row scale) * (weight scale), plus the residual. -/
module

public import proofs.«01_k».proof.Proof.Gen.GemmIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GemmIdeal.Hand

open Cert.GemmIdeal Cert.GemmIdeal.Gen

/-- A sum over the 40 groups, written out in the order of the groups. -/
theorem sum40 (f : Fin 40 → EReal) : ∑ g, f g =
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 + f 33 + f 34 + f 35 + f 36 + f 37 + f 38 + f 39 := by
  simp only [Fin.sum_univ_castSucc, Fin.sum_univ_zero, zero_add]
  rfl

/-- One element of the block the body stores: the sum over the groups, plus the residual. -/
theorem out_at (c : Dev nD) (t : Fin cfg0.N) (xb : FVec Ideal S256x5120 .fp8e4m3) (xsb : FVec Ideal S256x40 .f32)
    (wb : FVec Ideal S5120x768 .fp8e4m3) (wsb : FVec Ideal S40x768 .f32) (rb : FVec Ideal S256x768 .bf16) (r : Fin 256) (n : Fin 768) :
    out0_A_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) xb xsb wb wsb rb (ix2 r n)
    = ((∑ g : Fin 40, (∑ k : Fin 128, xb (ix2 r ⟨g.val * 128 + k.val, by omega⟩) * wb (ix2 ⟨g.val * 128 + k.val, by omega⟩ n))
        * xsb (ix2 r g) * wsb (ix2 g n) : EReal) + rb (ix2 r n) : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  rw [sum40]
  rfl

end Cert.GemmIdeal.Hand

end
-- ==== Proof.GemmValue.lean ====
/- The result of the matrix product kernel at the extended reals: every block a grid point writes back is the
   reference's term at the block's place, and the blocks tile the array. -/
module

public import proofs.«01_k».proof.Proof.Gen.GemmIdeal.Value
public import proofs.«01_k».proof.Proof.GemmRefValue
public import proofs.«01_k».proof.Proof.GemmBody

@[expose] public section

set_option maxRecDepth 16384

noncomputable section

open Idealize.ShloMosaic Idealize.ShloMosaic.TcCoe Idealize.SL.Sem
open Idealize.ShloMosaic.Pipeline (Dat)

namespace Cert.GemmIdeal.Hand

open Cert.GemmIdeal Cert.GemmIdeal.Gen

variable (m : (ℓ : Loc nD τ sig) → Buf (Elt Ideal) ℓ)

/-- The index maps of the windows, over the 5 column tiles and 24 row tiles. -/
theorem idx : ∀ t : Fin cfg0.N, win0_0.index t = ![t.val % 24, 0] ∧ win0_1.index t = ![t.val % 24, 0] ∧ win0_2.index t = ![0, t.val / 24]
    ∧ win0_3.index t = ![0, t.val / 24] ∧ win0_4.index t = ![t.val % 24, t.val / 24] ∧ win0_5.index t = ![t.val % 24, t.val / 24] ∧ t.val < 120 :=
  (by decide +kernel : ∀ t : Fin grid0.N, _)

/-- The block of codes at a point: 256 rows of the array. -/
theorem blk0 (c : Dev nD) (t : Fin cfg0.N) (r : Fin 256) (k : Fin 5120) (h : t.val % 24 * 256 + r.val < 6144) :
    iblk m c 0 t (ix2 r k) = m ((c : Thread nD τ).loc main_arg0) (ix2 (n0 := 6144) ⟨t.val % 24 * 256 + r.val, h⟩ k) := by
  blk_ext [iblk, V, idx t]

/-- The block of row scales at a point. -/
theorem blk1 (c : Dev nD) (t : Fin cfg0.N) (r : Fin 256) (g : Fin 40) (h : t.val % 24 * 256 + r.val < 6144) :
    iblk m c 1 t (ix2 r g) = m ((c : Thread nD τ).loc main_arg1) (ix2 (n0 := 6144) ⟨t.val % 24 * 256 + r.val, h⟩ g) := by
  blk_ext [iblk, V, idx t]

/-- The block of weight codes at a point: 768 columns of the array. -/
theorem blk2 (c : Dev nD) (t : Fin cfg0.N) (k : Fin 5120) (n : Fin 768) (h : t.val / 24 * 768 + n.val < 3840) :
    iblk m c 2 t (ix2 k n) = m ((c : Thread nD τ).loc main_arg2) (ix2 (n1 := 3840) k ⟨t.val / 24 * 768 + n.val, h⟩) := by
  blk_ext [iblk, V, idx t]

/-- The block of weight scales at a point: the array the kernel is given repeats each scale 128 times along the columns. -/
theorem blk3 (c : Dev nD) (t : Fin cfg0.N) (g : Fin 40) (n : Fin 768) (h : (t.val / 24 * 768 + n.val) / 128 < 30) :
    iblk m c 3 t (ix2 g n) = m ((c : Thread nD τ).loc main_arg3) (ix2 (n1 := 30) g ⟨(t.val / 24 * 768 + n.val) / 128, h⟩) := by
  blk_simp [iblk]
  entry_read
  pointwise
  blk_ext [idx t]

/-- The block of the residual at a point, read through the reshape before the call. -/
theorem blk4 (c : Dev nD) (t : Fin cfg0.N) (r : Fin 256) (n : Fin 768) (h : (t.val % 24 * 256 + r.val) / 2048 < 3)
   (h1 : (t.val % 24 * 256 + r.val) % 2048 < 2048) (h2 : t.val / 24 * 768 + n.val < 3840) :
    iblk m c 4 t (ix2 r n) = m ((c : Thread nD τ).loc main_arg4) (ix3 (n0 := 3) (n1 := 2048) (n2 := 3840)
      ⟨(t.val % 24 * 256 + r.val) / 2048, h⟩ ⟨(t.val % 24 * 256 + r.val) % 2048, h1⟩ ⟨t.val / 24 * 768 + n.val, h2⟩) := by
  blk_simp [iblk]
  entry_read
  pointwise
  blk_ext [idx t]

/-- Where an element of the output block sits in the result. -/
theorem emb5 (t : Fin cfg0.N) (r : Fin 256) (n : Fin 768) (h : t.val % 24 * 256 + r.val < 6144) (h2 : t.val / 24 * 768 + n.val < 3840) :
    ((View.whole main_v3).slice (win0_5.rect t)).emb (ix2 r n)
      = ix2 (n0 := 6144) (n1 := 3840) ⟨t.val % 24 * 256 + r.val, h⟩ ⟨t.val / 24 * 768 + n.val, h2⟩ := by
  blk_ext [idx t]

/-- The result array after the run is the reference's term over the kernel's arguments. -/
theorem final (c : Dev nD) : (dats m 0 c).arrAt 5 (cfgs 0).N
    = Cert.GemmRefIdeal.Hand.REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  idx_vars y
  refine (out_at c t _ _ _ _ _ _ _).trans ?_
  have ht : t.val < 120 := (idx t).2.2.2.2.2.2
  have hr : t.val % 24 * 256 + y0.val < 6144 := by omega
  have hn : t.val / 24 * 768 + y1.val < 3840 := by omega
  rw [emb5 t y0 y1 hr hn]
  refine Eq.trans ?_ (Cert.GemmRefIdeal.Hand.REF_at _ _ _ _ _ _ _).symm
  refine congrArg₂ _ (Finset.sum_congr rfl fun g _ => congrArg₂ _ (congrArg₂ _ (Finset.sum_congr rfl fun k _ => congrArg₂ _ ?_ ?_) ?_) ?_) ?_
  · exact blk0 m c t _ _ _
  · exact blk2 m c t _ _ _
  · exact blk1 m c t _ _ _
  · exact blk3 m c t _ _ _
  · exact blk4 m c t _ _ _ _ _

end Cert.GemmIdeal.Hand

end
-- ==== Proof.QuantScalar.lean ====
/- The two scalar pieces of the quantiser as the programs spell them, over vectors of any shape: the exponent of a
   group from its largest magnitude, and the power of two of an exponent. Both programs' vectors are these, and an
   element of the result depends on the same element of the operand only. -/
module

public import proofs.«01_k».proof.Proof.Gen.Quant.Value
public import proofs.«01_k».proof.Proof.Gen.QuantRef.Value
public import Idealize.ShloMosaic.Lib.Pipeline.ValueKit
public import Idealize.ShloMosaic.Lib.Pointwise
public import Idealize.ShloMosaic.PureOps.BitExact.Laws

@[expose] public section

set_option maxRecDepth 16384

noncomputable section

open Idealize.ShloMosaic Idealize.ShloMosaic.TcCoe Idealize.SL.Sem

namespace Cert.QuantHand

variable {F : FTy → Type} [BitOps F]

/-- The exponent of a group from its largest magnitude `a`: the exponent of `a / 448` as a fraction in [1/2, 1) times a
    power of two, and 0 where `a` is 0. -/
def expo {s : Shape} (a : FVec F s .f32) : IVec s 32 :=
  have cst_79 : F .f32 := Scalar.ofBits .f32 0x3B124925#32
  have v241 : FVec F s .f32 := broadcast s cst_79
  have v242 : FVec F s .f32 := mulf a v241
  have v243 : IVec s 32 := bitcastToInt v242
  have v244 : IVec s 32 := broadcast s 2139095040#32
  have v245 : IVec s 32 := andi v243 v244
  have v246 : IVec s 32 := broadcast s 0#32
  have v247 : IVec s 1 := cmpi .eq v245 v246
  have v248 : IVec s 32 := broadcast s 2147483648#32
  have v249 : IVec s 32 := andi v243 v248
  have v250 : IVec s 32 := select v247 v249 v243
  have v251 : FVec F s .f32 := bitcastToFloat .f32 v250
  have v252 : IVec s 32 := bitcastToInt v251
  have v255 : IVec s 32 := broadcast s 23#32
  have v256 : IVec s 32 := shrui v252 v255
  have v257 : IVec s 32 := broadcast s 255#32
  have v258 : IVec s 32 := andi v256 v257
  have v261 : IVec s 32 := broadcast s 0#32
  have v262 : IVec s 1 := cmpi .eq v258 v261
  have v263 : IVec s 32 := broadcast s 255#32
  have v264 : IVec s 1 := cmpi .eq v258 v263
  have v270 : IVec s 1 := ori v264 v262
  have v271 : IVec s 32 := broadcast s 0#32
  have v272 : IVec s 32 := broadcast s 126#32
  have v273 : IVec s 32 := subi v258 v272
  have v274 : IVec s 32 := select v270 v271 v273
  have cst_84 : F .f32 := Scalar.ofBits .f32 0x00000000#32
  have v276 : FVec F s .f32 := broadcast s cst_84
  have v277 : IVec s 1 := cmpf .oeq a v276
  have v278 : IVec s 32 := broadcast s 0#32
  have v279 : IVec s 32 := select v277 v278 v274
  v279

/-- The power of two of an exponent: 1 scaled by `2 ^ e`. -/
def pow2 {s : Shape} (e : IVec s 32) : FVec F s .f32 :=
  have cst_86 : F .f32 := Scalar.ofBits .f32 0x3F800000#32
  have v280 : FVec F s .f32 := broadcast s cst_86
  have v281 : IVec s 32 := bitcastToInt v280
  have v282 : IVec s 32 := broadcast s 2139095040#32
  have v283 : IVec s 32 := andi v281 v282
  have v284 : IVec s 32 := broadcast s 0#32
  have v285 : IVec s 1 := cmpi .eq v283 v284
  have v286 : IVec s 32 := broadcast s 2147483648#32
  have v287 : IVec s 32 := andi v281 v286
  have v288 : IVec s 32 := select v285 v287 v281
  have v289 : FVec F s .f32 := bitcastToFloat .f32 v288
  have v290 : IVec s 32 := bitcastToInt v289
  have v291 : IVec s 32 := broadcast s 2147483648#32
  have v292 : IVec s 32 := andi v290 v291
  have v293 : IVec s 32 := broadcast s 23#32
  have v294 : IVec s 32 := shrui v290 v293
  have v295 : IVec s 32 := broadcast s 255#32
  have v296 : IVec s 32 := andi v294 v295
  have v297 : IVec s 32 := broadcast s 8388607#32
  have v298 : IVec s 32 := andi v290 v297
  have v299 : IVec s 32 := broadcast s 0#32
  have v300 : IVec s 1 := cmpi .eq v296 v299
  have v301 : IVec s 32 := broadcast s 255#32
  have v302 : IVec s 1 := cmpi .eq v296 v301
  have v303 : IVec s 32 := broadcast s 4294966784#32
  have v304 : IVec s 32 := maxsi e v303
  have v305 : IVec s 32 := broadcast s 512#32
  have v306 : IVec s 32 := minsi v304 v305
  have v307 : IVec s 32 := addi v296 v306
  have v308 : IVec s 32 := broadcast s 2139095040#32
  have v309 : IVec s 32 := ori v292 v308
  have v310 : IVec s 32 := broadcast s 23#32
  have v311 : IVec s 32 := shli v307 v310
  have v312 : IVec s 32 := ori v292 v311
  have v313 : IVec s 32 := ori v312 v298
  have v314 : IVec s 32 := broadcast s 0#32
  have v315 : IVec s 1 := cmpi .sle v307 v314
  have v316 : IVec s 32 := broadcast s 255#32
  have v317 : IVec s 1 := cmpi .sge v307 v316
  have v318 : IVec s 32 := select v317 v309 v313
  have v319 : IVec s 32 := select v315 v292 v318
  have v320 : IVec s 32 := select v300 v292 v319
  have v321 : IVec s 32 := select v302 v290 v320
  have v322 : FVec F s .f32 := bitcastToFloat .f32 v321
  v322

/-- The reciprocal of a scale: 1 scaled by `2 ^ (-e)`. -/
def inv {s : Shape} (e : IVec s 32) : FVec F s .f32 :=
  pow2 (subi (broadcast s 0#32) e)

/-- One code: the element times the reciprocal of its group's scale, clipped to [-448, 448] and rounded to fp8. -/
def code (x : F .bf16) (i : F .f32) : F .fp8e4m3 :=
  FloatOps.truncf .fp8e4m3 (by decide : FTy.bits .fp8e4m3 < FTy.bits .f32) (FloatOps.minimumf (Scalar.ofBits .f32 0x43E00000#32)
    (FloatOps.maximumf (Scalar.ofBits .f32 0xC3E00000#32) (FloatOps.mulf (FloatOps.extf .f32 (by decide : FTy.bits .bf16 < FTy.bits .f32) x) i)))

/-- The largest magnitude of group `g` (128 elements) of row `r`. -/
def groupMax {n : Nat} (x : Vec Bits ⟨2, ![n, 5120]⟩ .bf16) (r : Fin n) (g : Fin 40) : Bits .f32 :=
  Finset.fold FloatOps.maximumf (FloatOps.ofBits (F := Bits) .f32 4286578688#32)
    (fun k : Fin 128 => FloatOps.absf (FloatOps.extf .f32 (by decide : FTy.bits .bf16 < FTy.bits .f32)
      (x (ix2 r ⟨g.val * 128 + k.val, by omega⟩)))) Finset.univ

/-- An exponent depends on its own group's largest magnitude only. -/
theorem expo_at {s s' : Shape} (a : FVec F s .f32) (b : FVec F s' .f32) (j : s.Idx) (j' : s'.Idx) (h : a j = b j') :
    expo a j = expo b j' := by
  pointwise [expo]
  rw [h]

/-- A power of two depends on its own exponent only. -/
theorem pow2_at {s s' : Shape} (a : IVec s 32) (b : IVec s' 32) (j : s.Idx) (j' : s'.Idx) (h : a j = b j') :
    pow2 (F := F) a j = pow2 b j' := by
  pointwise [pow2]
  rw [h]

/-- A reciprocal depends on its own exponent only. -/
theorem inv_at {s s' : Shape} (a : IVec s 32) (b : IVec s' 32) (j : s.Idx) (j' : s'.Idx) (h : a j = b j') :
    inv (F := F) a j = inv b j' := by
  unfold inv
  apply pow2_at
  pointwise
  rw [h]

end Cert.QuantHand

end
-- ==== Proof.QuantRefValue.lean ====
/- What the reference of the quantiser computes: the largest magnitude of every group, its scale, and the codes. -/
module

public import proofs.«01_k».proof.Proof.QuantScalar
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QuantRef.Hand

open Cert.QuantRef Cert.QuantRef.Gen Cert.QuantHand

variable (m : (ℓ : Loc nD τ sig) → Buf (Elt Bits) ℓ)

/-- The index maps at the grid's only point: every block is its whole array. -/
theorem idx : ∀ t : Fin cfg0.N, win0_0.index t = ![0, 0] ∧ win0_1.index t = ![0, 0] ∧ win0_2.index t = ![0, 0] :=
  (by decide +kernel : ∀ t : Fin grid0.N, _)

/-- The argument as the matrix of its 6144 rows. -/
abbrev ROWS (x : Vec Bits S3x2048x5120 .bf16) : Vec Bits S6144x5120 .bf16 :=
  shapeCast S6144x5120 x shapeCasts_S3x2048x5120_S6144x5120

/-- The codes of a matrix, from its groups' exponents, as the reference stores them. -/
abbrev CODESOF (x : Vec Bits S6144x5120 .bf16) (e : IVec S6144x40 32) : Vec Bits S6144x5120 .fp8e4m3 :=
  k0_pay1 (F := Bits) (k0_pay2 (F := Bits) x) (k0_pay12 (F := Bits)) (k0_pay13 (F := Bits)) (k0_pay15 (F := Bits)) (k0_pay16 (F := Bits))
    (k0_pay17 (F := Bits) e) (k0_pay18 (F := Bits)) (k0_pay19 (F := Bits) e) (k0_pay20 (F := Bits) e)

/-- The reference's exponents are `expo` of the groups' largest magnitudes. -/
theorem expo_eq (x : Vec Bits S6144x5120 .bf16) :
    k0_pay6 (k0_pay4 (F := Bits) x) (k0_pay5 (F := Bits) x) = expo (k0_pay3 (F := Bits) x) := rfl

/-- The reference's scales are `pow2` of its exponents. -/
theorem pow2_eq (x : Vec Bits S6144x5120 .bf16) :
    k0_pay11 (F := Bits) (k0_pay7 (F := Bits)) (k0_pay9 (F := Bits)) (k0_pay10 (F := Bits) (k0_pay4 (F := Bits) x) (k0_pay5 (F := Bits) x))
      = pow2 (F := Bits) (expo (k0_pay3 (F := Bits) x)) := rfl

/-- The reference's largest magnitudes, element by element. -/
theorem max_at (x : Vec Bits S6144x5120 .bf16) (r : Fin 6144) (g : Fin 40) :
    k0_pay3 (F := Bits) x (ix2 r g) = groupMax x r g := by
  pointwise [k0_pay3, k0_pay2, groupMax]

/-- The codes, with the reciprocals of the scales named. -/
def codesV (x : Vec Bits S6144x5120 .bf16) (e : IVec S6144x40 32) : Vec Bits S6144x5120 .fp8e4m3 :=
  shapeCast S6144x5120 (truncf .fp8e4m3 (minimumf (broadcast S6144x40x128 (Scalar.ofBits (F := Bits) .f32 0x43E00000#32))
    (maximumf (broadcast S6144x40x128 (Scalar.ofBits .f32 0xC3E00000#32))
      (mulf (k0_pay2 (F := Bits) x) (broadcastTo S6144x40x128 (shapeCast S6144x40x1 (inv (F := Bits) e) shapeCasts_S6144x40_S6144x40x1)
        broadcasts_S6144x40x1_S6144x40x128)))) bitsLt_fp8e4m3_f32) shapeCasts_S6144x40x128_S6144x5120

/-- The codes the reference stores are these. -/
theorem codes_eq (x : Vec Bits S6144x5120 .bf16) (e : IVec S6144x40 32) : CODESOF x e = codesV x e := rfl

/-- One code of the reference: of its element and the reciprocal of its group's scale. -/
theorem code_at (x : Vec Bits S6144x5120 .bf16) (e : IVec S6144x40 32) (r : Fin 6144) (l : Fin 5120) :
    CODESOF x e (ix2 r l) = code (F := Bits) (x (ix2 r l)) (inv (F := Bits) e (ix2 r ⟨l.val / 128, by omega⟩)) := by
  rw [codes_eq]
  pointwise [codesV, k0_pay2, code]

/-- The block the reference reads is its argument, as the matrix of its rows. -/
theorem blk0 (c : Dev nD) : iblk m c 0 t0_0 = ROWS (m ((c : Thread nD τ).loc main_arg0)) := by
  funext j
  blk_simp [iblk]
  entry_read
  blk_ext [idx t0_0]

/-- A load at offset zero starts at zero along every axis. -/
theorem hz : (![0, 0] : Fin 2 → Nat) = fun _ => 0 := funext fun a => by fin_cases a <;> rfl

/-- The scales after the run. -/
theorem final2 (c : Dev nD) : (dats m 0 c).arrAt 2 (cfgs 0).N = pow2 (F := Bits) (expo (k0_pay3 (F := Bits) (ROWS (m ((c : Thread nD τ).loc main_arg0))))) := by
  refine (dats m 0 c).arrAt_eq_of_after_last 2 t0_0 (by decide +kernel) _ fun j => ?_
  blk_simp
  rw [after0_2]
  frame_out
  unfold k0_pay21 k0_pay22
  rw [View.ld_unit_zero hz, pow2_eq, blk0]

/-- The codes after the run. -/
theorem final1 (c : Dev nD) : (dats m 0 c).arrAt 1 (cfgs 0).N = CODESOF (ROWS (m ((c : Thread nD τ).loc main_arg0))) (expo (k0_pay3 (F := Bits) (ROWS (m ((c : Thread nD τ).loc main_arg0))))) := by
  refine (dats m 0 c).arrAt_eq_of_after_last 1 t0_0 (by decide +kernel) _ fun j => ?_
  blk_simp
  rw [after0_1]
  frame_out
  unfold k0_pay23 k0_pay21 k0_pay22
  rw [View.ld_unit_zero hz, expo_eq, blk0]

end Cert.QuantRef.Hand

end
-- ==== Proof.QuantBlock.lean ====
/- What the quantiser computes in one block of 256 rows: the exponent and the scale of every group of 128 elements of a
   row, and the codes of the block. -/
module

public import proofs.«01_k».proof.Proof.QuantScalar
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Quant.Hand

open Cert.Quant Cert.Quant.Gen Cert.QuantHand

/-- The exponents of a block, from its groups' columns of largest magnitudes put side by side. -/
theorem pay44_eq (a0 a1 a2 a3 a4 a5 a6 a7 a8 a9 a10 a11 a12 a13 a14 a15 a16 a17 a18 a19 a20 a21 a22 a23 a24 a25 a26 a27 a28 a29 a30 a31 a32
      a33 a34 a35 a36 a37 a38 : FVec Bits S256x1 .f32) (a39 : FVec Bits S256 .f32) :
    k0_pay44 (F := Bits)
      a0 a1 a2 a3 a4 a5 a6 a7 a8 a9 a10 a11 a12 a13 a14 a15 a16 a17 a18 a19 a20 a21 a22 a23 a24 a25 a26 a27 a28 a29 a30 a31 a32
      a33 a34 a35 a36 a37 a38 a39
    = expo (concatenate S256x40 1
      (⟨S256x1, a0⟩ ::⟨S256x1, a1⟩ ::⟨S256x1, a2⟩ ::⟨S256x1, a3⟩ ::⟨S256x1, a4⟩ ::⟨S256x1, a5⟩ ::⟨S256x1, a6⟩ ::⟨S256x1, a7⟩ ::
      ⟨S256x1, a8⟩ ::⟨S256x1, a9⟩ ::⟨S256x1, a10⟩ ::⟨S256x1, a11⟩ ::⟨S256x1, a12⟩ ::⟨S256x1, a13⟩ ::⟨S256x1, a14⟩ ::
      ⟨S256x1, a15⟩ ::⟨S256x1, a16⟩ ::⟨S256x1, a17⟩ ::⟨S256x1, a18⟩ ::⟨S256x1, a19⟩ ::⟨S256x1, a20⟩ ::⟨S256x1, a21⟩ ::
      ⟨S256x1, a22⟩ ::⟨S256x1, a23⟩ ::⟨S256x1, a24⟩ ::⟨S256x1, a25⟩ ::⟨S256x1, a26⟩ ::⟨S256x1, a27⟩ ::⟨S256x1, a28⟩ ::
      ⟨S256x1, a29⟩ ::⟨S256x1, a30⟩ ::⟨S256x1, a31⟩ ::⟨S256x1, a32⟩ ::⟨S256x1, a33⟩ ::⟨S256x1, a34⟩ ::⟨S256x1, a35⟩ ::
      ⟨S256x1, a36⟩ ::⟨S256x1, a37⟩ ::⟨S256x1, a38⟩ ::⟨S256x1, shapeCast S256x1 a39 shapeCasts_S256_S256x1⟩ :: [])
      concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x40_d1) := rfl

/-- A column of largest magnitudes: of the 128 elements each row has in the slice of group `g`. -/
theorem col_at (x0 : Vec Bits S256x5120 .bf16) (r : Fin 256) (g : Fin 40) (n off : Nat)
    (hr : ∀ a, (![0, off] : Fin 2 → Nat) a + S256x128.size a ≤ S256x5120.size a) (i : S256x1.Idx)
    (hg : g.val = n) (hi : (i 0).val = r.val) (ho : off = n * 128) :
    k0_pay1 (F := Bits) (View.ld x0 (Rect.unit (s := S256x5120) ![0, off] S256x128.size hr)) i = groupMax x0 r g := by
  subst hg ho
  pointwise [k0_pay1, groupMax]
  rw [show i 0 = r from Fin.ext hi]

/-- The exponent of every group of a block is that of the group's largest magnitude. -/
theorem expo_block (x0 : Vec Bits S256x5120 .bf16) (r : Fin 256) (g : Fin 40) :
    k0_pay100 (F := Bits) x0 (ix2 r g) = expo (s := S256x40) (fun j => groupMax x0 (j 0) (j 1)) (ix2 r g) := by
  unfold k0_pay100
  rw [pay44_eq]
  apply expo_at
  concat_tiles i h
  case piece19 =>
    change k0_pay1 (F := Bits) (View.ld x0 r0_19) i = _
    exact col_at x0 r g _ _ _ i h h0 rfl
  case piece39 =>
    change k0_pay1 (F := Bits) (View.ld x0 r0_39) i = _
    exact col_at x0 r g _ _ _ i h h0 rfl
  all_goals exact col_at x0 r g _ _ _ i h h0 rfl

/-- The codes of group `n`'s slice `v` of a block, from the reciprocals `s` of the block's scales. -/
def codesN (n : Nat) (hs : S256x40.Slices ![0, n] S256x1) (s : FVec Bits S256x40 .f32) (v : Vec Bits S256x128 .bf16) :
    FVec Bits S256x128 .fp8e4m3 :=
  truncf .fp8e4m3 (minimumf (broadcast S256x128 (Scalar.ofBits .f32 0x43E00000#32))
    (maximumf (broadcast S256x128 (Scalar.ofBits .f32 0xC3E00000#32))
      (mulf (extf .f32 (shapeCast S256x128 v shapeCasts_S256x128_S256x128 : FVec Bits S256x128 .bf16) bitsLt_bf16_f32)
        (broadcastTo S256x128 (extractStridedSlice S256x1 ![0, n] s hs) broadcasts_S256x1_S256x128)))) bitsLt_fp8e4m3_f32

/-- One code of a slice: of its element and the reciprocal of its group's scale. -/
theorem code_at (x0 : Vec Bits S256x5120 .bf16) (s : FVec Bits S256x40 .f32) (n off : Nat) (hs : S256x40.Slices ![0, n] S256x1)
    (hr : ∀ a, (![0, off] : Fin 2 → Nat) a + S256x128.size a ≤ S256x5120.size a) (r : Fin 256) (l : Fin 5120) (x : S256x128.Idx)
    (h0 : r.val = (x 0).val) (h1 : l.val = off + (x 1).val) (ho : off = n * 128) :
    codesN n hs s (View.ld x0 (Rect.unit (s := S256x5120) ![0, off] S256x128.size hr)) x
      = code (F := Bits) (x0 (ix2 r l)) (s (ix2 r ⟨l.val / 128, by omega⟩)) := by
  subst ho
  obtain rfl : r = x 0 := Fin.ext h0
  obtain ⟨l, hl⟩ := l
  obtain rfl : l = n * 128 + (x 1).val := h1
  have hd : (n * 128 + (x 1).val) / 128 = n := by have := (x 1).isLt; change (x 1).val < 128 at this; omega
  pointwise [codesN, code]
  simp only [hd]

/-- The codes of a block: each of its element and the reciprocal of its group's scale. -/
theorem codes_block (x0 : Vec Bits S256x5120 .bf16) (r : Fin 256) (l : Fin 5120) :
    out0_1 (F := Bits) x0 (ix2 r l)
      = code (F := Bits) (x0 (ix2 r l)) (inv (F := Bits) (k0_pay100 (F := Bits) x0) (ix2 r ⟨l.val / 128, by omega⟩)) := by
  have hinv : k0_pay102 (F := Bits) x0 = inv (F := Bits) (k0_pay100 (F := Bits) x0) := rfl
  rw [← hinv]
  unfold out0_1
  canon_tiles x h
  all_goals first
    | exact code_at x0 _ _ _ _ _ r l x h0 h1 rfl
    | exact code_at x0 _ _ _ _ _ r l x h0 (h1.trans (Nat.zero_add _).symm) rfl

/-- The scales of a block. -/
theorem scales_block (x0 : Vec Bits S256x5120 .bf16) : out0_2 (F := Bits) x0 = pow2 (F := Bits) (k0_pay100 (F := Bits) x0) := by
  unfold out0_2
  rw [View.canon_unit_zero (funext fun a => by fin_cases a <;> rfl)]
  rfl

end Cert.Quant.Hand

end
-- ==== Proof.QuantValue.lean ====
/- The results of the quantiser: every block a grid point writes back is the reference's term at the block's place, and the
   blocks tile the arrays. -/
module

public import proofs.«01_k».proof.Proof.QuantRefValue
public import proofs.«01_k».proof.Proof.QuantBlock

@[expose] public section

set_option maxRecDepth 16384

noncomputable section

open Idealize.ShloMosaic Idealize.ShloMosaic.TcCoe Idealize.SL.Sem
open Idealize.ShloMosaic.Pipeline (Dat)

namespace Cert.Quant.Hand

open Cert.Quant Cert.Quant.Gen Cert.QuantHand
open Cert.QuantRef.Hand (ROWS CODESOF)

variable (m : (ℓ : Loc nD τ sig) → Buf (Elt Bits) ℓ)

/-- The index maps of the windows, over the 24 row tiles. -/
theorem idx : ∀ t : Fin cfg0.N, win0_0.index t = ![t.val, 0] ∧ win0_1.index t = ![t.val, 0] ∧ win0_2.index t = ![t.val, 0] ∧ t.val < 24 :=
  (by decide +kernel : ∀ t : Fin grid0.N, _)

/-- The kernel's argument as the matrix of its rows, as the reference reads it. -/
abbrev X (c : Dev nD) : Vec Bits Cert.QuantRef.S6144x5120 .bf16 := ROWS (m ((c : Thread nD τ).loc main_arg0))

/-- The block at a point: 256 rows of the matrix, read through the reshape before the call. -/
theorem blk0 (c : Dev nD) (t : Fin cfg0.N) (r : Fin 256) (l : Fin 5120) (h : t.val * 256 + r.val < 6144) :
    iblk m c 0 t (ix2 r l) = X m c (ix2 (n0 := 6144) ⟨t.val * 256 + r.val, h⟩ l) := by
  blk_simp [iblk]
  entry_read
  pointwise
  blk_ext [idx t]

/-- The largest magnitudes of a block's groups are those of the matrix's. -/
theorem groupMax_blk (c : Dev nD) (t : Fin cfg0.N) (r : Fin 256) (g : Fin 40) (h : t.val * 256 + r.val < 6144) :
    groupMax (n := 256) (iblk m c 0 t) r g = groupMax (X m c) ⟨t.val * 256 + r.val, h⟩ g := by
  unfold groupMax
  simp only [blk0 m c t r _ h]

/-- The exponents of a block are the reference's. -/
theorem expo_blk (c : Dev nD) (t : Fin cfg0.N) (r : Fin 256) (g : Fin 40) (h : t.val * 256 + r.val < 6144) :
    k0_pay100 (F := Bits) (iblk m c 0 t) (ix2 r g)
      = expo (Cert.QuantRef.Gen.k0_pay3 (F := Bits) (X m c)) (ix2 (n0 := 6144) ⟨t.val * 256 + r.val, h⟩ g) := by
  refine (expo_block _ _ _).trans (expo_at _ _ _ _ ?_)
  exact (groupMax_blk m c t r g h).trans (Cert.QuantRef.Hand.max_at _ _ _).symm

/-- Where an element of a block of codes sits in the result. -/
theorem emb1 (t : Fin cfg0.N) (r : Fin 256) (l : Fin 5120) (h : t.val * 256 + r.val < 6144) :
    ((View.whole main_v1_0).slice (win0_1.rect t)).emb (ix2 r l) = ix2 (n0 := 6144) (n1 := 5120) ⟨t.val * 256 + r.val, h⟩ l := by
  blk_ext [idx t]

/-- Where an element of a block of scales sits in the result. -/
theorem emb2 (t : Fin cfg0.N) (r : Fin 256) (g : Fin 40) (h : t.val * 256 + r.val < 6144) :
    ((View.whole main_v1_1).slice (win0_2.rect t)).emb (ix2 r g) = ix2 (n0 := 6144) (n1 := 40) ⟨t.val * 256 + r.val, h⟩ g := by
  blk_ext [idx t]

/-- The codes after the run are the reference's. -/
theorem final1 (c : Dev nD) : (dats m 0 c).arrAt 1 (cfgs 0).N = CODESOF (X m c) (expo (Cert.QuantRef.Gen.k0_pay3 (F := Bits) (X m c))) := by
  refine (dats m 0 c).arrAt_eq_of_covers 1 _ (by decide +kernel) fun t _ y => ?_
  blk_simp
  rw [after0_1]
  idx_vars y
  have ht : t.val < 24 := (idx t).2.2.2
  have hr : t.val * 256 + y0.val < 6144 := by omega
  rw [emb1 t y0 y1 hr]
  refine (codes_block _ _ _).trans (Eq.trans ?_ (Cert.QuantRef.Hand.code_at _ _ _ _).symm)
  exact congrArg₂ _ (blk0 m c t y0 y1 hr) (inv_at _ _ _ _ (expo_blk m c t y0 _ hr))

/-- The scales after the run are the reference's. -/
theorem final2 (c : Dev nD) : (dats m 0 c).arrAt 2 (cfgs 0).N = pow2 (F := Bits) (expo (Cert.QuantRef.Gen.k0_pay3 (F := Bits) (X m c))) := by
  refine (dats m 0 c).arrAt_eq_of_covers 2 _ (by decide +kernel) fun t _ y => ?_
  blk_simp
  rw [after0_2, scales_block]
  idx_vars y
  have ht : t.val < 24 := (idx t).2.2.2
  have hr : t.val * 256 + y0.val < 6144 := by omega
  rw [emb2 t y0 y1 hr]
  exact pow2_at _ _ _ _ (expo_blk m c t y0 y1 hr)

end Cert.Quant.Hand

end
-- ==== Proof.lean ====
module

public import proofs.«01_k».proof.Defs
public import proofs.«01_k».proof.Proof.Gen.Gemm
public import proofs.«01_k».proof.Proof.Gen.Gemm.Skeleton
public import proofs.«01_k».proof.Proof.Gen.Gemm.Launch
public import proofs.«01_k».proof.Proof.Gen.Gemm.Points
public import proofs.«01_k».proof.Proof.Gen.Gemm.Frame
public import proofs.«01_k».proof.Proof.Gen.GemmIdeal
public import proofs.«01_k».proof.Proof.Gen.GemmIdeal.Skeleton
public import proofs.«01_k».proof.Proof.Gen.GemmIdeal.Launch
public import proofs.«01_k».proof.Proof.Gen.GemmIdeal.Points
public import proofs.«01_k».proof.Proof.Gen.GemmIdeal.Frame
public import proofs.«01_k».proof.Proof.Gen.GemmRefIdeal
public import proofs.«01_k».proof.Proof.Gen.GemmRefIdeal.Skeleton
public import proofs.«01_k».proof.Proof.Gen.GemmRefIdeal.Launch
public import proofs.«01_k».proof.Proof.Gen.GemmRefIdeal.Points
public import proofs.«01_k».proof.Proof.Gen.GemmRefIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantRef
public import proofs.«01_k».proof.Proof.Gen.QuantRef.Skeleton
public import proofs.«01_k».proof.Proof.Gen.QuantRef.Launch
public import proofs.«01_k».proof.Proof.Gen.QuantRef.Points
public import proofs.«01_k».proof.Proof.Gen.QuantRef.Frame
public import proofs.«01_k».proof.Proof.Gen.GemmIdeal.Value
public import proofs.«01_k».proof.Proof.Gen.GemmRefIdeal.Value
public import proofs.«01_k».proof.Proof.Gen.Quant.Value
public import proofs.«01_k».proof.Proof.GemmValue
public import proofs.«01_k».proof.Proof.QuantValue
public import proofs.«01_k».proof.Proof.Gen.QuantRef.Value
public import Idealize.ShloMosaic.Adequacy
public import Idealize.ShloMosaic.Init

@[expose] public section

noncomputable section

namespace Cert.Proof

open Idealize.ShloMosaic Idealize.SL.Sem Cert.Gemm

/-- `Cert.algebraic_GemmIdeal_GemmRefIdeal`: from equal arguments, at the extended reals, the tiled matrix product and
    its reference leave the same result. -/
theorem algebraic_gemm : Cert.algebraic_GemmIdeal_GemmRefIdeal (hGemmIdeal := Cert.GemmIdeal.Gen.facts)
    (hGemmRefIdeal := Cert.GemmRefIdeal.Gen.facts) := by
  intro m g m' g' _ hargs
  refine ⟨fun c => (Cert.GemmIdeal.Gen.dats m 0 c).arrAt 5 Cert.GemmIdeal.cfg0.N, Cert.GemmIdeal.Value.run_blocks m g, ?_⟩
  refine (θ_run (Cert.GemmRefIdeal.defs (F := Ideal)) _ _).mono (fun r h c => ?_) (Cert.GemmRefIdeal.Value.run_blocks m' g')
  obtain ⟨hv, hkept⟩ := h c
  refine ⟨hv.trans ?_, hkept⟩
  obtain ⟨h0, h1, h2, h3, h4⟩ := hargs c
  refine (Cert.GemmRefIdeal.Hand.final m' c).trans ?_
  rw [h0, h1, h2, h3, h4]
  exact (Cert.GemmIdeal.Hand.final m c).symm

/-- The quantiser gives the bits of its reference: both leave the same codes and scales. -/
theorem bitexact_quant : Cert.bitexact_Quant_QuantRef (hQuant := Cert.Quant.Gen.facts) (hQuantRef := Cert.QuantRef.Gen.facts) := by
  intro m g m' g' _ hargs
  refine ⟨fun c => (Cert.Quant.Gen.dats m 0 c).arrAt 1 Cert.Quant.cfg0.N, fun c => (Cert.Quant.Gen.dats m 0 c).arrAt 2 Cert.Quant.cfg0.N,
    Cert.Quant.Value.run_blocks m g, ?_⟩
  refine (θ_run (Cert.QuantRef.defs (F := Bits)) _ _).mono (fun r h c => ?_) (Cert.QuantRef.Value.run_blocks m' g')
  obtain ⟨hv0, hv1, hkept⟩ := h c
  refine ⟨hv0.trans ?_, hv1.trans ?_, hkept⟩
  · refine (Cert.QuantRef.Hand.final1 m' c).trans ?_
    rw [hargs c]
    exact (Cert.Quant.Hand.final1 m c).symm
  · refine (Cert.QuantRef.Hand.final2 m' c).trans ?_
    rw [hargs c]
    exact (Cert.Quant.Hand.final2 m c).symm

theorem claim : Cert.Claim := ⟨Cert.Gemm.Gen.facts, Cert.GemmIdeal.Gen.facts, Cert.GemmRefIdeal.Gen.facts, Cert.Quant.Gen.facts, Cert.QuantRef.Gen.facts,
  fun m g _ => Cert.Gemm.Gen.frame m g, fun m g _ => Cert.GemmIdeal.Gen.frame m g, fun m g _ => Cert.GemmRefIdeal.Gen.frame m g,
  fun m g _ => Cert.Quant.Gen.frame m g, fun m g _ => Cert.QuantRef.Gen.frame m g, trivial, algebraic_gemm, bitexact_quant⟩

end Cert.Proof

end
